-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_nonnegative [hPre_tokens_nonnegative : Cert.Pre_tokens_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_nonnegative.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_nonnegative [hPre_tokens_nonnegative : Cert.Pre_tokens_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_nonnegative.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_tokens_nonnegative [hKernelIdeal : Cert.KernelIdeal.Facts] [hPre_tokens_nonnegative : Cert.Pre_tokens_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_nonnegative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_tokens_nonnegative [hReferenceIdeal : Cert.ReferenceIdeal.Facts] [hPre_tokens_nonnegative : Cert.Pre_tokens_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_tokens_nonnegative [hKernelIdeal : Cert.KernelIdeal.Facts] [hReferenceIdeal : Cert.ReferenceIdeal.Facts] [hPre_tokens_nonnegative : Cert.Pre_tokens_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_tokens_nonnegative : Cert.Pre_tokens_nonnegative.Facts),
    quiescent_Kernel (hKernel := hKernel)
    ∧ quiescent_KernelIdeal (hKernelIdeal := hKernelIdeal)
    ∧ quiescent_KernelIdeal_pre_tokens_nonnegative (hKernelIdeal := hKernelIdeal) (hPre_tokens_nonnegative := hPre_tokens_nonnegative)
    ∧ quiescent_ReferenceIdeal (hReferenceIdeal := hReferenceIdeal)
    ∧ quiescent_ReferenceIdeal_pre_tokens_nonnegative (hReferenceIdeal := hReferenceIdeal) (hPre_tokens_nonnegative := hPre_tokens_nonnegative)
    ∧ preserves_Kernel_KernelIdeal
    ∧ algebraic_KernelIdeal_ReferenceIdeal_pre_tokens_nonnegative (hKernelIdeal := hKernelIdeal) (hReferenceIdeal := hReferenceIdeal) (hPre_tokens_nonnegative := hPre_tokens_nonnegative)
-- ==== Pre_tokens_nonnegative.lean ====
abbrev S2x1 : Shape := ⟨2, ![2, 1]⟩
abbrev S_ : Shape := ⟨0, ![]⟩

class Facts : Prop where
  bcast_S_S2x1 : S_.BroadcastsInDim S2x1 (![] : Fin 0 → Fin S2x1.rank)
  reducesTo_S2x1_S_d0_1 : S2x1.ReducesTo [0, 1] S_
  h_S_ : 0 < S_.numel

variable [Facts]

def fn {F : FTy → Type} [FloatOps F] (main_arg0 : IVec S2x1 32) : IVec S_ 1 :=
  let main_c : IVec S_ 32 := constantI S_ 32 0#32
  let main_v0 : IVec S2x1 32 := broadcastInDim S2x1 ![] bcast_S_S2x1 main_c
  let main_v1 : IVec S2x1 1 := cmpi .sge main_arg0 main_v0
  let main_c_0 : IVec S_ 1 := constantI S_ 1 1#1
  let main_v2 : IVec S_ 1 := (fun x v => Host.reduce IntOp.andi x v reducesTo_S2x1_S_d0_1 h_S_) main_v1 main_c_0
  main_v2
-- ==== Kernel.lean ====
abbrev S2x1 : Shape := ⟨2, ![2, 1]⟩
abbrev S2 : Shape := ⟨1, ![2]⟩
abbrev S1000 : Shape := ⟨1, ![1000]⟩
abbrev S16 : Shape := ⟨1, ![16]⟩
abbrev S128 : Shape := ⟨1, ![128]⟩
abbrev S_ : Shape := ⟨0, ![]⟩
abbrev S104 : Shape := ⟨1, ![104]⟩
abbrev S1x1000 : Shape := ⟨2, ![1, 1000]⟩

abbrev nBuf : Table → Nat
  | .hbm => 4
  | .local .scVector .vmem => 2
  | _ => 0

abbrev bufTy : (tb : Table) → Fin (nBuf tb) → BufTy
  | .hbm, ⟨0, _⟩ => ⟨S2x1, .i32⟩
  | .hbm, ⟨1, _⟩ => ⟨S2, .i32⟩
  | .hbm, ⟨2, _⟩ => ⟨S1000, .f32⟩
  | .hbm, ⟨3, _⟩ => ⟨S1x1000, .f32⟩
  | .local .scVector .vmem, ⟨0, _⟩ => ⟨S16, .i32⟩
  | .local .scVector .vmem, ⟨1, _⟩ => ⟨S128, .f32⟩
  | _, _ => ⟨S2x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 8], ![false, false]⟩

def k0_chk1 (v22 : IVec S16 32) : Prop :=
  (∀ a x, ((![v22] : Fin 1 → IVec S16 32) a x).toNat < S128.size a) ∧
  (∀ a x, ((![v22] : Fin 1 → IVec S16 32) a x).toNat < S128.size a)
theorem k0_idx1_inb : ∀ (v22 : IVec S16 32) (k0_hw1 : k0_chk1 v22), ∀ a x, ((![v22] : Fin 1 → IVec S16 32) a x).toNat < S128.size a := fun v22 k0_hw1 => k0_hw1.1
theorem k0_idx2_inb : ∀ (v22 : IVec S16 32) (k0_hw1 : k0_chk1 v22), ∀ a x, ((![v22] : Fin 1 → IVec S16 32) a x).toNat < S128.size a := fun v22 k0_hw1 => k0_hw1.2
def k0_cond1 (i : grid0.Coords) : BitVec 1 :=
  let arg1 : BitVec 32 := BitVec.ofNat 32 (i 1).val
  let c7_i32 : BitVec 32 := 7#32
  let v30 : BitVec 1 := Scalar.cmpi .slt arg1 c7_i32
  let v31 : BitVec 32 := Scalar.extui v30
  let c0_i32_5 : BitVec 32 := 0#32
  let v32 : BitVec 1 := Scalar.cmpi .ne v31 c0_i32_5
  v32

def k0_off1 (i : grid0.Coords) : Fin 1 → Nat :=
  let arg1 : BitVec 32 := BitVec.ofNat 32 (i 1).val
  let c128_i32 : BitVec 32 := 128#32
  let v0 : BitVec 32 := Scalar.muli arg1 c128_i32
  ![v0.toNat]
def k0_cond2 (i : grid0.Coords) : BitVec 1 :=
  let arg1 : BitVec 32 := BitVec.ofNat 32 (i 1).val
  let c7_i32_6 : BitVec 32 := 7#32
  let v33 : BitVec 1 := Scalar.cmpi .eq arg1 c7_i32_6
  let v34 : BitVec 32 := Scalar.extui v33
  let c0_i32_7 : BitVec 32 := 0#32
  let v35 : BitVec 1 := Scalar.cmpi .ne v34 c0_i32_7
  v35

def k0_off2 (i : grid0.Coords) : Fin 1 → Nat :=
  let arg1 : BitVec 32 := BitVec.ofNat 32 (i 1).val
  let c128_i32 : BitVec 32 := 128#32
  let v0 : BitVec 32 := Scalar.muli arg1 c128_i32
  ![v0.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 8 | ⟨_ + 1, h⟩ => absurd h (Nat.not_lt.2 (Nat.le_add_left _ _))
-- ==== ReferenceIdeal.lean ====
abbrev S2x1 : Shape := ⟨2, ![2, 1]⟩
abbrev S1x1 : Shape := ⟨2, ![1, 1]⟩
abbrev S_ : Shape := ⟨0, ![]⟩
abbrev S1 : Shape := ⟨1, ![1]⟩
abbrev S2 : Shape := ⟨1, ![2]⟩
abbrev S1000 : Shape := ⟨1, ![1000]⟩
abbrev S1x1000 : Shape := ⟨2, ![1, 1000]⟩

abbrev nBuf : Space → Nat
  | .hbm => 22
  | .vmem => 0
  | .smem => 0
  | _ => 0

abbrev bufTy : (tb : Table) → Fin (tcTables nBuf tb) → BufTy
  | .hbm, ⟨0, _⟩ => ⟨S2x1, .i32⟩
  | .hbm, ⟨1, _⟩ => ⟨S1x1, .i32⟩
  | .hbm, ⟨2, _⟩ => ⟨S_, .i32⟩
  | .hbm, ⟨3, _⟩ => ⟨S1x1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2, .i32⟩
  | .hbm, ⟨8, _⟩ => ⟨S_, .f32⟩
  | .hbm, ⟨9, _⟩ => ⟨S1000, .f32⟩
  | .hbm, ⟨10, _⟩ => ⟨S_, .i32⟩
  | .hbm, ⟨11, _⟩ => ⟨S2, .i32⟩
  | .hbm, ⟨12, _⟩ => ⟨S2, .i1⟩
  | .hbm, ⟨13, _⟩ => ⟨S_, .i32⟩
  | .hbm, ⟨14, _⟩ => ⟨S2, .i32⟩
  | .hbm, ⟨15, _⟩ => ⟨S2, .i32⟩
  | .hbm, ⟨16, _⟩ => ⟨S2, .i32⟩
  | .hbm, ⟨17, _⟩ => ⟨S2x1, .i32⟩
  | .hbm, ⟨18, _⟩ => ⟨S_, .f32⟩
  | .hbm, ⟨19, _⟩ => ⟨S2, .f32⟩
  | .hbm, ⟨20, _⟩ => ⟨S1000, .f32⟩
  | .hbm, ⟨21, _⟩ => ⟨S1x1000, .f32⟩
  | _, _ => ⟨S2x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Counts.lean ====
/-
  What one task computes, as a function of words: the bag of words over a thousand entries, counted for two tokens, and
  the 128 entries of it that a task's two masked scatter-adds leave in its scratch. Nothing here speaks of memory: a
  masked scatter-add is `storeIdx`, a task's masks and indices are the kernel's own payloads, and everything holds over
  any float values `F`, the two additions being the ones the store itself performs (`FloatOps.idxAddf`).
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Counts

open Cert.KernelIdeal Cert.KernelIdeal.Gen
open Idealize.ShloMosaic

variable {F : FTy → Type} [FloatOps F]

/-! ## The bag of words of two tokens -/

/-- A count raised by one where `hit` holds, as the store with add raises it. -/
def bump (hit : Prop) [Decidable hit] (y : F .f32) : F .f32 :=
  if hit then FloatOps.idxAddf y (Scalar.ofBits .f32 0x3F800000#32) else y

/-- Entry `x` of the bag of words of the tokens `a` and `b`, counted in that order from zero. A token that is no
    entry's number (a negative one, or one past the table) is counted nowhere. -/
def bow (a b : BitVec 32) (x : ℕ) : F .f32 :=
  bump (b.toNat = x) (bump (a.toNat = x) (Scalar.ofBits .f32 0x00000000#32))

/-! ## A scatter-add whose mask sets at most one lane -/

/-- Steps of which only the one at `k` does anything, taken over a list that has `k` once, do that one step. -/
theorem foldl_one {α β : Type} (step : β → α → β) (k : α) (h : ∀ b x, x ≠ k → step b x = b) :
    ∀ (l : List α) (b : β), l.Nodup → k ∈ l → l.foldl step b = step b k := by
  have idle : ∀ (l : List α) (b : β), k ∉ l → l.foldl step b = b := by
    intro l
    induction l with
    | nil => intro b _; rfl
    | cons x l ih =>
      intro b hk
      rw [List.foldl_cons, h b x fun e => hk (e ▸ List.mem_cons_self)]
      exact ih b fun hm => hk (List.mem_cons_of_mem x hm)
  intro l
  induction l with
  | nil => intro b _ hk; exact absurd hk List.not_mem_nil
  | cons x l ih =>
    intro b hn hk
    rw [List.foldl_cons]
    obtain ⟨hx, hn⟩ := List.nodup_cons.mp hn
    by_cases e : x = k
    · subst e; exact idle l _ hx
    · rw [h b x e]
      exact ih b hn ((List.mem_cons.mp hk).resolve_left fun e' => e e'.symm)

/-- Lane `k` of a vector of sixteen. -/
abbrev lane (k : Fin 16) : S16.Idx := Shape.ofLane (d := ![16]) k

/-- A scatter-add of sixteen lanes into 128 entries whose mask is clear on every lane but `k`: entry `j` is raised by
    lane `k`'s value when that lane is set and its index is `j`, and every other entry keeps its value. -/
theorem storeIdx_one (f : FVec F S128 .f32) (w : IVec S16 32) (v : FVec F S16 .f32) (mask : IVec S16 1)
    (h : ∀ a x, ((![w] : Fin 1 → IVec S16 32) a x).toNat < S128.size a) (k : Fin 16)
    (hm : ∀ k', k' ≠ k → mask (lane k') ≠ 1) (j : S128.Idx) :
    storeIdx (F := F) (e := .f32) f ![w] v mask true h j
      = if mask (lane k) = 1 ∧ (w (lane k)).toNat = (j 0).val then FloatOps.idxAddf (f j) (v (lane k)) else f j := by
  unfold storeIdx
  refine (congrFun (foldl_one (α := Fin 16) _ k (fun g k' hk => ?_) (List.finRange 16) f (List.nodup_finRange _) (List.mem_finRange k)) j).trans ?_
  · show (if mask (lane k') = 1 then _ else g) = g
    exact if_neg (hm k' hk)
  show (if mask (lane k) = 1 then _ else f) j = _
  by_cases hk : mask (lane k) = 1
  · rw [if_pos hk]
    have hidx : (∀ a, (j a).val = (idxAt (![w] : Fin 1 → IVec S16 32) h (lane k) a).val) ↔ (w (lane k)).toNat = (j 0).val :=
      ⟨fun hj => (hj 0).symm, fun hj a => by rw [Fin.eq_zero a]; exact hj.symm⟩
    refine Eq.trans (ite_congr (propext hidx) (fun _ => rfl) fun _ => rfl) ?_
    by_cases hj : (w (lane k)).toNat = (j 0).val
    · refine (if_pos hj).trans (Eq.trans ?_ (if_pos (And.intro hk hj)).symm)
      have e : idxAt (![w] : Fin 1 → IVec S16 32) h (lane k) = j := by
        funext a; apply Fin.ext; exact (hidx.mpr hj a).symm
      exact congrArg (fun i => FloatOps.idxAddf (f i) (v (lane k))) e
    · exact (if_neg hj).trans (if_neg (mt And.right hj)).symm
  · rw [if_neg hk, if_neg fun hh => hk hh.1]

/-! ## A task's masks and indices -/

/-- The number of the task at coordinates `L`, below eight. -/
theorem task_lt (L : grid0.Coords) : (L 1).val < 8 := (L 1).isLt

/-- A word less a task's first entry, as a signed number of the task's 128 entries: it is one exactly when the word,
    read unsigned, is among the task's entries, and then it is the word's place among them. -/
theorem window {n : ℕ} (hn : n < 8) (t : BitVec 32) (j : ℕ) (hj : j < 128) (r : BitVec 32)
    (hr : r = t - BitVec.ofNat 32 n * 128#32) :
    ((0#32).sle r = true ∧ r.slt 128#32 = true
        ∧ (if (127#32).slt (if r.slt 0#32 then 0#32 else r) then 127#32 else if r.slt 0#32 then 0#32 else r).toNat = j)
      ↔ t.toNat = 128 * n + j := by
  replace hr : r.toNat = (2 ^ 32 - 128 * n + t.toNat) % 2 ^ 32 := by
    have hc : (BitVec.ofNat 32 n * 128#32).toNat = 128 * n := by
      rw [BitVec.toNat_mul, BitVec.toNat_ofNat, BitVec.toNat_ofNat]; omega
    rw [hr, BitVec.toNat_sub, hc]
  have ht := t.isLt
  simp only [BitVec.slt_eq_decide, BitVec.sle_eq_decide, decide_eq_true_eq, BitVec.toInt_eq_toNat_cond, BitVec.toNat_ofNat]
  split_ifs <;> (try simp only [BitVec.toNat_ofNat]) <;> omega

/-- A word clipped to the numbers 0 to 127 names one of 128 entries. -/
theorem clip_lt (r : BitVec 32) :
    (if (127#32).slt (if r.slt 0#32 then 0#32 else r) then 127#32 else if r.slt 0#32 then 0#32 else r).toNat < 128 := by
  have hr := r.isLt
  simp only [BitVec.slt_eq_decide, decide_eq_true_eq, BitVec.toInt_eq_toNat_cond, BitVec.toNat_ofNat]
  split_ifs <;> (try simp only [BitVec.toNat_ofNat] at *) <;> omega

/-- The lanes' numbers, as the kernel counts them. -/
abbrev lanes : IVec S16 32 := iota .scVector S16 32 [0] iota_S16_d0_w32_scVector

/-- Lane `k`'s number is `k`. -/
theorem lanes_apply (k : Fin 16) : lanes (lane k) = BitVec.ofNat 32 k.val := by
  show BitVec.ofNat 32 (0 * 16 + (lane k 0).val) = _
  rw [Nat.zero_mul, Nat.zero_add]; rfl

/-- A mask that keeps of `g` the one lane number `c`: set on a lane exactly when it is that lane and `g` is set there. -/
theorem keep_iff (c : Fin 16) (g : IVec S16 1) (k : Fin 16) :
    andi (cmpi .eq lanes (broadcast S16 (BitVec.ofNat 32 c.val))) g (lane k) = 1 ↔ k = c ∧ g (lane k) = 1 := by
  show BitVec.ofBool (lanes (lane k) == BitVec.ofNat 32 c.val) &&& g (lane k) = 1 ↔ _
  rw [lanes_apply]
  have hb : ∀ (p : Bool) (x : BitVec 1), BitVec.ofBool p &&& x = 1 ↔ p = true ∧ x = 1 := by decide
  rw [hb, beq_iff_eq]
  refine and_congr_left fun _ => ⟨fun e => Fin.ext ?_, fun e => congrArg (fun i : Fin 16 => BitVec.ofNat 32 i.val) e⟩
  have := congrArg BitVec.toNat e
  rw [BitVec.toNat_ofNat, BitVec.toNat_ofNat] at this
  have := k.isLt; have := c.isLt; omega

/-- Every lane's clipped index is inside the scratch, whatever words were read. -/
theorem chk (L : grid0.Coords) (v : Vec F S16 .i32) : k0_chk1 (k0_pay7 (F := F) L v) := by
  have h : ∀ (a : Fin 1) (x : S16.Idx), ((![k0_pay7 (F := F) L v] : Fin 1 → IVec S16 32) a x).toNat < S128.size a := fun a x => by
    rw [Fin.eq_zero a]
    exact clip_lt (k0_pay5 (F := F) L v x)
  exact ⟨h, h⟩

/-- A lane is counted at entry `j` of a task's scratch exactly when its word is that entry's number in the table. -/
theorem hit_iff (L : grid0.Coords) (v : Vec F S16 .i32) (x : S16.Idx) (j : ℕ) (hj : j < 128) :
    (k0_pay6 (F := F) L v x = 1 ∧ (k0_pay7 (F := F) L v x).toNat = j) ↔ (v x).toNat = 128 * (L 1).val + j := by
  refine Iff.trans ?_ (window (task_lt L) (v x) j hj (k0_pay5 (F := F) L v x) rfl)
  have hb : ∀ p q : Bool, BitVec.ofBool p &&& BitVec.ofBool q = 1 ↔ p = true ∧ q = true := by decide
  have h6 : k0_pay6 (F := F) L v x = 1 ↔ (0#32).sle (k0_pay5 (F := F) L v x) = true ∧ (k0_pay5 (F := F) L v x).slt 128#32 = true :=
    hb ((0#32).sle (k0_pay5 (F := F) L v x)) ((k0_pay5 (F := F) L v x).slt 128#32)
  rw [h6, and_assoc]
  exact Iff.rfl

/-- One of a task's two scatter-adds, the one that keeps lane `c` alone: entry `j` is raised when lane `c`'s word is
    that entry's number in the table. -/
theorem count_lane (L : grid0.Coords) (v : Vec F S16 .i32) (c : Fin 16) (f : FVec F S128 .f32)
    (h : ∀ a x, ((![k0_pay7 (F := F) L v] : Fin 1 → IVec S16 32) a x).toNat < S128.size a) (j : S128.Idx) :
    storeIdx (F := F) (e := .f32) f ![k0_pay7 (F := F) L v] (k0_pay1 (Scalar.ofBits .f32 0x3F800000#32))
        (andi (cmpi .eq lanes (broadcast S16 (BitVec.ofNat 32 c.val))) (k0_pay6 (F := F) L v)) true h j
      = bump ((v (lane c)).toNat = 128 * (L 1).val + (j 0).val) (f j) := by
  rw [storeIdx_one f (k0_pay7 (F := F) L v) _ _ h c fun k' hk h1 => hk ((keep_iff c _ k').mp h1).1]
  unfold bump
  refine ite_congr (propext ?_) (fun _ => rfl) fun _ => rfl
  rw [keep_iff, ← hit_iff L v (lane c) (j 0).val (j 0).isLt]
  exact ⟨fun hh => ⟨hh.1.2, hh.2⟩, fun hh => ⟨⟨rfl, hh.1⟩, hh.2⟩⟩

/-- A task's scratch after both of its scatter-adds onto zeros holds its 128 entries of the bag of words of the first
    two words it read. -/
theorem counts (L : grid0.Coords) (v : Vec F S16 .i32)
    (h h' : ∀ a x, ((![k0_pay7 (F := F) L v] : Fin 1 → IVec S16 32) a x).toNat < S128.size a) (j : S128.Idx) :
    storeIdx (F := F) (e := .f32)
        (storeIdx (F := F) (e := .f32) (fun _ => Scalar.ofBits .f32 0x00000000#32) ![k0_pay7 (F := F) L v]
          (k0_pay1 (Scalar.ofBits .f32 0x3F800000#32)) (k0_pay2 lanes (k0_pay6 (F := F) L v)) true h)
        ![k0_pay7 (F := F) L v] (k0_pay1 (Scalar.ofBits .f32 0x3F800000#32)) (k0_pay3 lanes (k0_pay6 (F := F) L v)) true h' j
      = bow (v (lane 0)) (v (lane 1)) (128 * (L 1).val + (j 0).val) := by
  refine (count_lane L v 1 _ h' j).trans ?_
  unfold bow
  exact congrArg _ (count_lane L v 0 _ h j)

end Cert.Proof.Counts

end
-- ==== Proof.Setup.lean ====
/-
  The launch of the bag-of-words call: its configuration, the arrays and scratches by name, how the 1000 entries of the
  result are shared among the eight tasks, and what the call's handshakes carry. Each task is handed a share of the
  token array and its own 128 entries of the result (the last its 104), and hands the same back with the entries
  counted; the call as a whole takes both arrays and returns the result holding the bag of words.
-/
module

public import proofs.«01_k».proof.Proof.Counts
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.Proof.Setup

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Counts (bow)

variable {F : FTy → Type}

/-! ## The configuration -/

/-- The labels of the program without the SparseCore call: those of a TensorCore program with no pipelines. -/
abbrev Lab : Labels := Pipeline.Sig Λ₀ (Fin 0) fun p => (pcfgs (F := F) p).Adm
/-- The configuration of the one SparseCore call. -/
abbrev K : SparseCore.Cfg τ sig (Lab (F := F)) 1 := sc (F := F)
/-- The bodies the labels run. -/
abbrev D [FloatOps F] : Defs nD τ sig (Elt F) (Lab (F := F)) := Pipeline.defs pcfgs defs₀
/-- No loop of this program carries a variant. -/
abbrev 𝒱₀ : Variants := Variants.none
abbrev 𝒱 : Variants := 𝒱₀.lift
abbrev v₀ : 𝒱.V := Sum.inl none

/-- The call runs eight tasks. -/
theorem eight : (K (F := F)).nSub 0 = 8 := rfl

/-- The call's handshake semaphores are distinct and unscoped, and no SparseCore's shared buffer is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The proof's ghost state: the handshakes' rounds, and beside them the counters of the transfers. -/
abbrev UH : Type := URounds (GSem nD τ sig) ℕ
abbrev UU : Type := UH × Counters
local notation "𝕄" => MT nD τ sig (HIx 1) (Elt F) ℕ UU ℕ
abbrev EH : Emb UH (MT nD τ sig (HIx 1) (Elt F) ℕ UU ℕ) := embL

/-! ## The arrays -/

/-- The kernel's argument, its two tokens in a row, the counts in a row, and the counts at the result's shape. -/
abbrev inLoc (d : Dev nD) : Loc nD τ sig := (SparseCore.T d).loc main_arg0
abbrev tokLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The token array, the counts and a task's two scratches, as a task addresses them. -/
abbrev tokM : Memref sig .scVector .hbm S2 .i32 := Memref.whole main_v0_scv
abbrev outM : Memref sig .scVector .hbm S1000 .f32 := Memref.whole main_v1_scv
abbrev wordsM : Memref sig .scVector .vmem S16 .i32 := Memref.whole cc0_scratch0
abbrev tallyM : Memref sig .scVector .vmem S128 .f32 := Memref.whole cc0_scratch1

variable (m : (ℓ : Loc nD τ sig) → Buf (Elt F) ℓ)

/-- The two tokens: the argument's two words in their order. -/
def toks (d : Dev nD) : Buf (Elt F) (tokLoc d) := shapeCast S2 (m (inLoc d)) shapeCasts_S2x1_S2

/-- Token `k`'s place in the token array. -/
abbrev nth (k : Fin 2) : S2.Idx := Shape.ofLane (d := ![2]) k

/-- The bag of words of a device's tokens, as the contents of the counts. -/
def bag [FloatOps F] (d : Dev nD) : Buf (Elt F) (outLoc d) :=
  fun x : S1000.Idx => bow (F := F) (toks m d (nth 0)) (toks m d (nth 1)) (x 0).val

/-! ## The entries of each task -/

/-- Task `i`'s entries: those from `128 i` on, up to the next task's. -/
def share (i : Fin 8) : Finset S1000.Idx := Finset.univ.filter fun x => (x 0).val / 128 = i.val

theorem mem_share (i : Fin 8) (x : S1000.Idx) : x ∈ share i ↔ (x 0).val / 128 = i.val := by
  unfold share; rw [Finset.mem_filter]; exact and_iff_right (Finset.mem_univ x)

/-- No entry is two tasks'. -/
theorem share_disjoint : ∀ i ∈ (Finset.univ : Finset (Fin 8)), ∀ j ∈ (Finset.univ : Finset (Fin 8)), i ≠ j → Disjoint (share i) (share j) :=
  fun i _ j _ h => Finset.disjoint_left.mpr fun x hi hj =>
    h (Fin.ext (((mem_share i x).mp hi).symm.trans ((mem_share j x).mp hj)))

/-- Every entry is some task's. -/
theorem share_cover : (Finset.univ : Finset (Fin 8)).biUnion share = Finset.univ :=
  Finset.eq_univ_iff_forall.mpr fun x => Finset.mem_biUnion.mpr
    ⟨⟨(x 0).val / 128, by have : (x 0).val < 1000 := (x 0).isLt; omega⟩, Finset.mem_univ _, (mem_share _ x).mpr rfl⟩

/-! ## What the handshakes carry -/

/-- Task `i`'s share of the right to read the tokens. -/
abbrev part (i : Fin 8) : PosShare TreeShare := Transfers.dealOf fullShare (Finset.univ : Finset (Fin 8)) i

/-- The tokens and the counts whole. -/
abbrev tokPts (d : Dev nD) : sProp 𝕄 := tokLoc d ↦{fullShare} toks m d
abbrev outPts (d : Dev nD) (f : Buf (Elt F) (outLoc d)) : sProp 𝕄 := outLoc d ↦{fullShare} f
/-- Task `i`'s share of the tokens, and its entries of the counts. -/
abbrev tokPart (d : Dev nD) (i : Fin 8) : sProp 𝕄 := tokLoc d ↦{part i} toks m d
abbrev outPart (d : Dev nD) (i : Fin 8) (f : Buf (Elt F) (outLoc d)) : sProp 𝕄 := outLoc d ↦[share i]{fullShare} f

/-- The tokens whole are the tasks' shares of them together. -/
theorem tokPts_parts (d : Dev nD) : (tokPts m d : sProp 𝕄) = bigSep Finset.univ fun i => tokPart m d i :=
  Transfers.pointsTo_deal Finset.univ ⟨0, Finset.mem_univ _⟩ fullShare

/-- The counts whole are the tasks' entries of them together. -/
theorem outPts_parts (d : Dev nD) (f : Buf (Elt F) (outLoc d)) : (outPts d f : sProp 𝕄) = bigSep Finset.univ fun i => outPart d i f := by
  show (outLoc d ↦{fullShare} f : sProp 𝕄) = bigSep Finset.univ fun i : Fin 8 => outLoc d ↦[share i]{fullShare} f
  rw [← pointsTo_biUnion Finset.univ (ℓ := outLoc d) share share_disjoint, share_cover]

variable [FloatOps F]

/-- What the call's handshakes carry: the arrays whole to the SparseCore and back, each task's parts of them to it and
    back, the counts at their launch contents on the way in and at the bag of words on the way out. -/
def P : (K (F := F)).Pay (nD := nD) (Val := Elt F) (Name := ℕ) (U := UU) where
  st := fun q d _ => match q with | 0 => iprop(tokPts m d ∗ outPts d (m (outLoc d)))
  dn := fun q d _ => match q with | 0 => iprop(tokPts m d ∗ outPts d (bag m d))
  go := fun q d _ i => match q with | 0 => iprop(tokPart m d (Fin.cast eight i) ∗ outPart d (Fin.cast eight i) (m (outLoc d)))
  td := fun q d _ i => match q with | 0 => iprop(tokPart m d (Fin.cast eight i) ∗ outPart d (Fin.cast eight i) (bag m d))
  x := fun _ _ => iprop(emp)

instance P_storable : (P (F := F) m).IsStorable where
  st q d _ := match q with
    | 0 => (inferInstance : BI.Storable (upEmb : UEmb _ 𝕄) iprop(tokPts m d ∗ outPts d (m (outLoc d))))
  dn q d _ := match q with
    | 0 => (inferInstance : BI.Storable (upEmb : UEmb _ 𝕄) iprop(tokPts m d ∗ outPts d (bag m d)))
  go q d _ i := match q with
    | 0 => (inferInstance : BI.Storable (upEmb : UEmb _ 𝕄) iprop(tokPart m d (Fin.cast eight i) ∗ outPart d (Fin.cast eight i) (m (outLoc d))))
  td q d _ i := match q with
    | 0 => (inferInstance : BI.Storable (upEmb : UEmb _ 𝕄) iprop(tokPart m d (Fin.cast eight i) ∗ outPart d (Fin.cast eight i) (bag m d)))

end Cert.Proof.Setup

end
-- ==== Proof.Own.lean ====
/-
  What a task owns and how its body addresses it: its two scratches and the three semaphores its copies are waited for
  on, taken out of the task's own buffers and cells; its share of the tokens and its entries of the counts in the body's
  spelling. The last task's entries are the 104 that its own copy writes, the others' 128.
-/
module

public import proofs.«01_k».proof.Proof.Setup

@[expose] public section

set_option maxRecDepth 16384

noncomputable section

namespace Cert.Proof.Own

open Cert.KernelIdeal Cert.KernelIdeal.Gen
open Cert.Proof.Setup
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## A task's thread and number -/

/-- The SparseCore and the vector subcore a task runs on, its thread, and its number among the eight. -/
abbrev coreOf (L : grid0.Coords) : Fin τ.nSC := (L 0).castLE hcore0
abbrev subOf (L : grid0.Coords) : Fin τ.nSub := (L 1).castLE hsub0
abbrev thr (d : Dev nD) (L : grid0.Coords) : Thread nD τ := V d (coreOf L) (subOf L)
theorem eight_tasks : grid0.bound 1 = 8 := rfl
abbrev num (L : grid0.Coords) : Fin 8 := Fin.cast eight_tasks (L 1)

variable (d : Dev nD) (L : grid0.Coords)

/-! ## Its semaphores and scratches -/

/-- The semaphores of the fetch, of the copy of 128 entries and of the copy of 104. -/
abbrev fetchCell : GSem nD τ sig := (thr d L, .dma cc0_scoped0.sem)
abbrev fullCell : GSem nD τ sig := (thr d L, .dma cc0_scoped1.sem)
abbrev lastCell : GSem nD τ sig := (thr d L, .dma cc0_scoped2.sem)

/-- The cells left when those three are taken out. -/
abbrev otherCells : Finset (GSem nD τ sig) := (((ownCells (thr d L)).erase (fetchCell d L)).erase (fullCell d L)).erase (lastCell d L)

/-- A task's own cells are the three its copies are waited for on, and the rest. -/
theorem own_cells :
    (ownSems0 (thr d L) : sProp 𝕄)
      = iprop(semVal (fetchCell d L) 0 ∗ semVal (fullCell d L) 0 ∗ semVal (lastCell d L) 0 ∗ bigSep (otherCells d L) fun g => semVal g 0) := by
  have own : ∀ s : SemLoc sig, s.isScoped .scVector = true → (thr d L, s) ∈ ownCells (thr d L) :=
    fun s h => mem_ownCells.mpr ⟨rfl, h⟩
  have ne : ∀ s s' : SemLoc sig, s ≠ s' → ((thr d L, s) : GSem nD τ sig) ≠ (thr d L, s') := fun s s' h e => h (congrArg Prod.snd e)
  have h0 := own (.dma cc0_scoped0.sem) (by decide)
  have h1 := Finset.mem_erase.mpr ⟨ne (.dma cc0_scoped1.sem) (.dma cc0_scoped0.sem) (by decide), own (.dma cc0_scoped1.sem) (by decide)⟩
  have h2 := Finset.mem_erase.mpr ⟨ne (.dma cc0_scoped2.sem) (.dma cc0_scoped1.sem) (by decide),
    Finset.mem_erase.mpr ⟨ne (.dma cc0_scoped2.sem) (.dma cc0_scoped0.sem) (by decide), own (.dma cc0_scoped2.sem) (by decide)⟩⟩
  unfold SparseCore.Cfg.ownSems0
  rw [SparseCore.bigSep_erase' h0, SparseCore.bigSep_erase' h1, SparseCore.bigSep_erase' h2]

/-- The scratch of words and the scratch of counts, as locations; the buffers left when both are taken out. -/
abbrev wordsLoc : Loc nD τ sig := (thr d L).loc cc0_scratch0
abbrev tallyLoc : Loc nD τ sig := (thr d L).loc cc0_scratch1
abbrev otherBufs : Finset (DevRef τ sig) :=
  ((ownRefs (τ := τ) (.scVector (coreOf L) (subOf L))).erase ((Proc.scVector (coreOf L) (subOf L)).devRef cc0_scratch0)).erase
    ((Proc.scVector (coreOf L) (subOf L)).devRef cc0_scratch1)

/-- A task's own buffers are its two scratches and the rest, each at some contents. -/
theorem own_bufs :
    (ownBufs (thr d L) : sProp 𝕄)
      = iprop((∃ f, wordsLoc d L ↦{fullShare} f) ∗ (∃ f, tallyLoc d L ↦{fullShare} f)
          ∗ bigSep (otherBufs L) fun b => iprop(∃ f, ((d, b) : Loc nD τ sig) ↦{fullShare} f)) := by
  have own : ∀ b : Ref sig .scVector, ((Proc.scVector (coreOf L) (subOf L)).devRef b).owner = .proc (.scVector (coreOf L) (subOf L)) →
      (Proc.scVector (coreOf L) (subOf L)).devRef b ∈ ownRefs (τ := τ) (.scVector (coreOf L) (subOf L)) :=
    fun b h => SparseCore.Cfg.mem_ownRefs_of_owner h
  unfold SparseCore.Cfg.ownBufs
  refine (SparseCore.bigSep_erase' (own cc0_scratch0 rfl)).trans ?_
  rw [SparseCore.bigSep_erase' (Finset.mem_erase.mpr ⟨fun e => absurd (Proc.devRef_injective _ e)
    (show (cc0_scratch1 : Ref sig .scVector) ≠ cc0_scratch0 by decide), own cc0_scratch1 rfl⟩)]

/-! ## Its pieces in the body's spelling -/

/-- The 128 entries a task copies out to, and the 104 the last task does. -/
abbrev fullM (h : k0_cond1 L = 1#1) : Memref sig .scVector .hbm S128 .f32 :=
  outM.slice (Rect.unit (s := S1000) (k0_off1 L) S128.size (k0_off1_inb L h)) (fun _ => rfl)
abbrev lastM (h : k0_cond2 L = 1#1) : Memref sig .scVector .hbm S104 .f32 :=
  outM.slice (Rect.unit (s := S1000) (k0_off2 L) S104.size (k0_off2_inb L h)) (fun _ => rfl)

/-- Every task but the last copies out 128 entries, and the last alone 104. -/
theorem cond1_iff : k0_cond1 L = 1#1 ↔ (num L).val < 7 := by
  have h : ∀ n : Fin 8, (Scalar.cmpi .ne (Scalar.extui (Scalar.cmpi .slt (BitVec.ofNat 32 n.val) 7#32) : BitVec 32) 0#32 = 1#1) ↔ n.val < 7 := by decide
  exact h (num L)
theorem cond2_iff : k0_cond2 L = 1#1 ↔ (num L).val = 7 := by
  have h : ∀ n : Fin 8, (Scalar.cmpi .ne (Scalar.extui (Scalar.cmpi .eq (BitVec.ofNat 32 n.val) 7#32) : BitVec 32) 0#32 = 1#1) ↔ n.val = 7 := by decide
  exact h (num L)

/-- The entries those copies write are the task's. -/
theorem full_set (h : k0_cond1 L = 1#1) : (fullM L h).view.set = share (num L) := by
  show ((View.whole (main_v1_scv : Ref sig .scVector)).slice (Rect.unit (s := S1000) (k0_off1 L) S128.size (k0_off1_inb L h))).set = _
  rw [View.set_slice]
  refine (Finset.map_refl).trans (Finset.ext fun x => ?_)
  rw [mem_share, Rect.mem_set_unit]
  have e : k0_off1 L = ![128 * (num L).val] := k0_off1_eq L
  constructor
  · intro hx
    have h0 := hx 0
    rw [e] at h0
    have hl : 128 * (num L).val ≤ (x 0).val := h0.1
    have hu : (x 0).val < 128 * (num L).val + 128 := h0.2
    omega
  · intro hx a
    rw [Fin.eq_zero a, e]
    have hl : 128 * (num L).val ≤ (x 0).val := by omega
    have hu : (x 0).val < 128 * (num L).val + 128 := by omega
    exact ⟨hl, hu⟩
theorem last_set (h : k0_cond2 L = 1#1) : (lastM L h).view.set = share (num L) := by
  show ((View.whole (main_v1_scv : Ref sig .scVector)).slice (Rect.unit (s := S1000) (k0_off2 L) S104.size (k0_off2_inb L h))).set = _
  rw [View.set_slice]
  refine (Finset.map_refl).trans (Finset.ext fun x => ?_)
  rw [mem_share, Rect.mem_set_unit]
  have e : k0_off2 L = ![128 * (num L).val] := k0_off2_eq L
  have h7 := (cond2_iff L).mp h
  have hx1 : (x 0).val < 1000 := (x 0).isLt
  constructor
  · intro hx
    have h0 := hx 0
    rw [e] at h0
    have hl : 128 * (num L).val ≤ (x 0).val := h0.1
    have hu : (x 0).val < 128 * (num L).val + 104 := h0.2
    omega
  · intro hx a
    rw [Fin.eq_zero a, e]
    have hl : 128 * (num L).val ≤ (x 0).val := by omega
    have hu : (x 0).val < 128 * (num L).val + 104 := by omega
    exact ⟨hl, hu⟩

theorem full_pts (h : k0_cond1 L = 1#1) (f : Buf (Elt F) (outLoc d)) :
    ((fullM L h).view.loc (thr d L) ↦[(fullM L h).view.set]{fullShare} f : sProp 𝕄) = outPart d (num L) f := by
  rw [full_set]
theorem last_pts (h : k0_cond2 L = 1#1) (f : Buf (Elt F) (outLoc d)) :
    ((lastM L h).view.loc (thr d L) ↦[(lastM L h).view.set]{fullShare} f : sProp 𝕄) = outPart d (num L) f := by
  rw [last_set]

end Cert.Proof.Own

end
-- ==== Proof.Contents.lean ====
/-
  What a task's scratches and its entries of the counts hold, as functions of the tokens: the scratch of words after the
  fetch begins with the two tokens, the scratch of counts is zeros after the eight stores and the task's part of the bag
  of words after the two scatter-adds, and a copy of it lands on the task's entries as the bag of words there.
-/
module

public import proofs.«01_k».proof.Proof.Own

@[expose] public section

set_option maxRecDepth 16384

noncomputable section

namespace Cert.Proof.Contents

open Cert.KernelIdeal Cert.KernelIdeal.Gen
open Cert.Proof.Setup Cert.Proof.Own
open Cert.Proof.Counts (bow lane lanes chk counts)
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The words -/

/-- The sixteen words a task loads, its scratch holding `fw` before the fetch. -/
abbrev words (fw : Buf (Elt F) (wordsLoc d L)) : Vec F S16 .i32 :=
  View.readAt (Elt F) wordsM.view (Rect.unit (s := S16) ![0] S16.size inb_S16_S16_0).toLoadRect
    (wordsM.view.writes (Elt F) fw
      [⟨Rect.unit (s := S16) ![0] S2.size inb_S16_S2_0, ReadAs.same.apply (View.read (Elt F) tokM.view (toks m d))⟩])

/-- A word the fetch wrote is the token of its number. -/
theorem words_nth (fw : Buf (Elt F) (wordsLoc d L)) (k : Fin 2) (k' : Fin 16) (e : k'.val = k.val) :
    words m d L fw (lane k') = toks m d (nth k) := by
  have h := View.read_writes_cons_hit_of_coords wordsM.view fw (Rect.unit (s := S16) ![0] S2.size inb_S16_S2_0)
    (ReadAs.same.apply (View.read (Elt F) tokM.view (toks m d))) [] (nth k)
    ((Rect.unit (s := S16) ![0] S16.size inb_S16_S16_0).toLoadRect.idx (lane k')) (fun a => by
      rw [Fin.eq_zero a]
      show 0 + 1 * k'.val = 0 + 1 * k.val
      rw [e])
  exact h

/-! ## The counts in scratch -/

/-- Zeros in every entry of the scratch of counts. -/
abbrev zeros : Buf (Elt F) (tallyLoc d L) := fun _ : S128.Idx => (Scalar.ofBits .f32 0x00000000#32 : F .f32)

/-- The task's part of the bag of words. -/
abbrev tally : Buf (Elt F) (tallyLoc d L) := fun j : S128.Idx =>
  (bow (toks m d (nth 0)) (toks m d (nth 1)) (128 * (L 1).val + (j 0).val) : F .f32)

/-- The eight stores of sixteen zeros, the latest first. -/
abbrev stores : List (View.Piece (Elt F) S128 .f32) :=
  [⟨Rect.unit ![112] S16.size inb_S128_S16_112, k0_pay4⟩, ⟨Rect.unit ![96] S16.size inb_S128_S16_96, k0_pay4⟩,
    ⟨Rect.unit ![80] S16.size inb_S128_S16_80, k0_pay4⟩, ⟨Rect.unit ![64] S16.size inb_S128_S16_64, k0_pay4⟩,
    ⟨Rect.unit ![48] S16.size inb_S128_S16_48, k0_pay4⟩, ⟨Rect.unit ![32] S16.size inb_S128_S16_32, k0_pay4⟩,
    ⟨Rect.unit ![16] S16.size inb_S128_S16_16, k0_pay4⟩, ⟨Rect.unit ![0] S16.size inb_S128_S16_0, k0_pay4⟩]

/-- The eight stores cover the scratch, so that it is zeros after them. -/
theorem stores_zero (ft : Buf (Elt F) (tallyLoc d L)) : tallyM.view.writes (Elt F) ft stores = zeros d L := by
  funext j
  refine View.read_writes_apply_of_pieces tallyM.view ft (fun _ => (Scalar.ofBits .f32 0x00000000#32 : F .f32)) stores ?_ j
    (View.cover_of_tiled stores S16.size rfl j)
  intro p hp x
  fin_cases hp <;> rfl

/-- The scratch of counts whole, as the scatter-add addresses it. -/
theorem tally_pts (f : Buf (Elt F) (tallyLoc d L)) :
    (((tallyM.access (.whole S128)).loc (thr d L)) ↦[(tallyM.access (.whole S128)).set]{fullShare} f : sProp 𝕄)
      = (tallyM.view.loc (thr d L) ↦{fullShare} f) := by
  rw [show (tallyM.access (.whole S128)).set = Finset.univ from Memref.set_access_whole (cc0_scratch1 : Ref sig .scVector)]

/-- The scratch of counts after the eight stores, as the first scatter-add takes it. -/
theorem zeroed_pts (ft : Buf (Elt F) (tallyLoc d L)) :
    (tallyM.view.loc (thr d L) ↦{fullShare} tallyM.view.writes (Elt F) ft stores : sProp 𝕄)
      = ((tallyM.access (.whole S128)).loc (thr d L)) ↦[(tallyM.access (.whole S128)).set]{fullShare} zeros d L := by
  rw [tally_pts, stores_zero]

/-- The scratch of counts after both scatter-adds is the task's part of the bag of words. -/
theorem counted (fw : Buf (Elt F) (wordsLoc d L))
    (h h' : ∀ a x, ((![k0_pay7 (F := F) L (words m d L fw)] : Fin 1 → IVec S16 32) a x).toNat < S128.size a) :
    (tallyM.access (.whole S128)).write (Elt F)
        ((tallyM.access (.whole S128)).write (Elt F) (zeros d L)
          (storeIdx (F := F) (e := .f32) ((tallyM.access (.whole S128)).read (Elt F) (zeros d L)) ![k0_pay7 (F := F) L (words m d L fw)]
            (k0_pay1 (Scalar.ofBits .f32 0x3F800000#32)) (k0_pay2 lanes (k0_pay6 (F := F) L (words m d L fw))) true h) Finset.univ)
        (storeIdx (F := F) (e := .f32)
          ((tallyM.access (.whole S128)).read (Elt F)
            ((tallyM.access (.whole S128)).write (Elt F) (zeros d L)
              (storeIdx (F := F) (e := .f32) ((tallyM.access (.whole S128)).read (Elt F) (zeros d L)) ![k0_pay7 (F := F) L (words m d L fw)]
                (k0_pay1 (Scalar.ofBits .f32 0x3F800000#32)) (k0_pay2 lanes (k0_pay6 (F := F) L (words m d L fw))) true h) Finset.univ))
          ![k0_pay7 (F := F) L (words m d L fw)]
          (k0_pay1 (Scalar.ofBits .f32 0x3F800000#32)) (k0_pay3 lanes (k0_pay6 (F := F) L (words m d L fw))) true h') Finset.univ
      = tally m d L := by
  have rd : ∀ f : Buf (Elt F) (tallyLoc d L), (tallyM.access (.whole S128)).read (Elt F) f = f :=
    fun f => Memref.read_access_whole (Elt F) (cc0_scratch1 : Ref sig .scVector) f
  have wr : ∀ f g : Buf (Elt F) (tallyLoc d L), (tallyM.access (.whole S128)).write (Elt F) f g Finset.univ = g :=
    fun f g => Memref.write_access_whole_univ (Elt F) (cc0_scratch1 : Ref sig .scVector) f g
  rw [wr, rd, wr, rd]
  funext j
  refine (counts L (words m d L fw) h h' j).trans ?_
  rw [words_nth m d L fw 0 0 rfl, words_nth m d L fw 1 1 rfl]

/-! ## The copies -/

/-- A copy of the whole scratch onto the task's 128 entries makes them the bag of words. -/
theorem full_copied (h : k0_cond1 L = 1#1) (f : Buf (Elt F) (outLoc d)) (w : S128.Idx → F .f32)
    (hw : ∀ j, w j = tally m d L j) :
    ((fullM L h).view.loc (thr d L) ↦[(fullM L h).view.set]{fullShare} (fullM L h).view.writes (Elt F) f [⟨Rect.whole S128, w⟩] : sProp 𝕄)
      = outPart d (num L) (bag m d) := by
  rw [← full_pts d L h]
  refine pointsTo_congr fun i hi => ?_
  obtain ⟨j, -, rfl⟩ := Finset.mem_map.mp hi
  refine (View.read_writes_cons_hit_of_coords (fullM L h).view f (Rect.whole S128) w [] j j (fun a => by
    show (j a).val = 0 + 1 * (j a).val
    omega)).trans ((hw j).trans ?_)
  show bow _ _ (128 * (L 1).val + (j 0).val) = bow _ _ (k0_off1 L 0 + 1 * (j 0).val)
  rw [k0_off1_eq, Nat.one_mul]; rfl

/-- A copy of the scratch's first 104 entries onto the last task's entries makes them the bag of words. -/
theorem last_copied (h : k0_cond2 L = 1#1) (f : Buf (Elt F) (outLoc d)) (w : S104.Idx → F .f32)
    (hw : ∀ j, w j = tally m d L ((Rect.unit (s := S128) ![0] S104.size inb_S128_S104_0).emb j)) :
    ((lastM L h).view.loc (thr d L) ↦[(lastM L h).view.set]{fullShare} (lastM L h).view.writes (Elt F) f [⟨Rect.whole S104, w⟩] : sProp 𝕄)
      = outPart d (num L) (bag m d) := by
  rw [← last_pts d L h]
  refine pointsTo_congr fun i hi => ?_
  obtain ⟨j, -, rfl⟩ := Finset.mem_map.mp hi
  refine (View.read_writes_cons_hit_of_coords (lastM L h).view f (Rect.whole S104) w [] j j (fun a => by
    show (j a).val = 0 + 1 * (j a).val
    omega)).trans ((hw j).trans ?_)
  show bow _ _ (128 * (L 1).val + (0 + 1 * (j 0).val)) = bow _ _ (k0_off2 L 0 + 1 * (j 0).val)
  rw [k0_off2_eq, Nat.one_mul, Nat.zero_add]; rfl

end Cert.Proof.Contents

end
-- ==== Proof.Tile.lean ====
/-
  One task's run, from its share of the tokens and its entries of the counts at anything to the same with the entries at
  the bag of words: the fetch of the two tokens, the check that the clipped indices are inside the scratch, eight stores
  of zeros, the two masked scatter-adds, and the copy out — of 128 entries for every task but the last, of 104 for that
  one. The executor runs the copies, loads and stores; the scatter-adds are the library's rule, and what memory holds
  after each is the contents module's.
-/
module

public import proofs.«01_k».proof.Proof.Contents

@[expose] public section

set_option maxRecDepth 16384

noncomputable section

namespace Cert.Proof.Tile

open Cert.KernelIdeal Cert.KernelIdeal.Gen
open Cert.Proof.Setup Cert.Proof.Own Cert.Proof.Contents
open Cert.Proof.Counts (bow lane lanes chk counts)
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- A task's body at its memrefs and semaphores. -/
abbrev body : Prog (TpuEff nD τ sig (Elt F) Λ₀ (thr d L).2) PUnit :=
  cc0__bow_sc L tokM (Memref.isWhole_whole _) outM (Memref.isWhole_whole _) wordsM (Memref.isWhole_whole _) tallyM (Memref.isWhole_whole _)
    cc0_scoped0 cc0_scoped1 cc0_scoped2

/-- A task runs from its resources to the same, its entries of the counts at the bag of words. -/
theorem run (O : CellTallies nD τ sig (HIx 1)) (W : Waits sig (HIx 1)) (fw : Buf (Elt F) (wordsLoc d L)) (ft : Buf (Elt F) (tallyLoc d L)) :
    iprop(Transfers.MayWaits (thr d L) (default : HIx 1) O ∗ tokPart m d (num L) ∗ outPart d (num L) (m (outLoc d))
        ∗ (wordsLoc d L ↦{fullShare} fw) ∗ (tallyLoc d L ↦{fullShare} ft)
        ∗ semVal (fetchCell d L) 0 ∗ semVal (fullCell d L) 0 ∗ semVal (lastCell d L) 0 ∗ owes (thr d L) O W)
      ⊢ wp frame (wpE (defs₀ (F := F)) 𝒱₀ (thr d L) none) Set.univ (body d L)
          fun _ => iprop(tokPart m d (num L) ∗ outPart d (num L) (bag m d)
            ∗ (∃ f, wordsLoc d L ↦{fullShare} f) ∗ (∃ f, tallyLoc d L ↦{fullShare} f)
            ∗ semVal (fetchCell d L) 0 ∗ semVal (fullCell d L) 0 ∗ semVal (lastCell d L) 0 ∗ ∃ W', owes (thr d L) O W') := by
  iintro ⟨#Hmw, Htok, Hout, Hw, Ht, Hfetch, Hfull, Hlast, HO⟩
  -- the tokens and the scratches as the body addresses them
  ihave Htok' := (show tokPart m d (num L) ⊢ (tokM.view.loc (thr d L) ↦{part (num L)} toks m d : sProp 𝕄) from Entails.of_eq rfl) $$ Htok
  ihave Hw' := (show (wordsLoc d L ↦{fullShare} fw : sProp 𝕄) ⊢ (wordsM.view.loc (thr d L) ↦{fullShare} fw : sProp 𝕄) from Entails.of_eq rfl) $$ Hw
  ihave Ht' := (show (tallyLoc d L ↦{fullShare} ft : sProp 𝕄) ⊢ (tallyM.view.loc (thr d L) ↦{fullShare} ft : sProp 𝕄) from Entails.of_eq rfl) $$ Ht
  have inside := fun v => chk (F := F) L v
  unfold body
  rw [cc0__bow_sc_eq_skeleton]
  unfold cc0__bow_sc_skel
  rw [k0_part1_eq_skeleton]
  unfold k0_part1_skel
  -- the fetch, the stores of zeros, the check
  sl_exec
  unfold run.sl.v22 run.sl.dma0 run.sl.v11 run.sl.cst_3
  -- the two scatter-adds
  ihave Hz := (Entails.of_eq (zeroed_pts (F := F) d L ft)) $$ Ht'
  iapply (SparseCore.wp_vectorStoreIdx 𝒱₀ (thr d L) none Set.univ (base := tallyM)) $$ Hz
  iintro Hz
  iapply (SparseCore.wp_vectorStoreIdx 𝒱₀ (thr d L) none Set.univ (base := tallyM)) $$ Hz
  iintro Hz
  ihave Hc := ((Entails.of_eq (congrArg _ (counted m d L fw (chk L _).1 (chk L _).2))).trans (Entails.of_eq (tally_pts d L _))) $$ Hz
  by_cases h7 : (num L).val < 7
  · have k0_h1 : k0_cond1 L = 1#1 := (cond1_iff L).mpr h7
    have k0_h2 : ¬ k0_cond2 L = 1#1 := fun h => by have := (cond2_iff L).mp h; omega
    -- the copy of 128 entries
    ihave Hout' := (Entails.of_eq (full_pts (F := F) d L k0_h1 _).symm) $$ Hout
    sl_exec
    sl_step
    isplitl [Htok']; · iexact Htok'
    isplitl [Hout']
    · iapply (Entails.of_eq (full_copied m d L k0_h1 _ _ fun _ => rfl)); iexact Hout'
    isplitl [Hw']; · iexists _; iexact Hw'
    isplitl [Hc]; · iexists _; iexact Hc
    isplitl [Hfetch]; · iexact Hfetch
    isplitl [Hfull]; · iexact Hfull
    isplitl [Hlast]; · iexact Hlast
    iexists _; iexact HO
  · have k0_h1 : ¬ k0_cond1 L = 1#1 := fun h => h7 ((cond1_iff L).mp h)
    have k0_h2 : k0_cond2 L = 1#1 := (cond2_iff L).mpr (by have := (num L).isLt; omega)
    -- the copy of 104 entries
    ihave Hout' := (Entails.of_eq (last_pts (F := F) d L k0_h2 _).symm) $$ Hout
    sl_exec
    sl_step
    isplitl [Htok']; · iexact Htok'
    isplitl [Hout']
    · iapply (Entails.of_eq (last_copied m d L k0_h2 _ _ fun _ => rfl)); iexact Hout'
    isplitl [Hw']; · iexists _; iexact Hw'
    isplitl [Hc]; · iexists _; iexact Hc
    isplitl [Hfetch]; · iexact Hfetch
    isplitl [Hfull]; · iexact Hfull
    isplitl [Hlast]; · iexact Hlast
    iexists _; iexact HO

end Cert.Proof.Tile

end
-- ==== Proof.Call.lean ====
/-
  The call: each of its eight tasks is a run of the kernel's body, and the arrays it takes whole are dealt among the
  tasks and put together again — the tokens by shares of the right to read them, the counts by entries.
-/
module

public import proofs.«01_k».proof.Proof.Tile

@[expose] public section

set_option maxRecDepth 16384

noncomputable section

namespace Cert.Proof.Call

open Cert.KernelIdeal Cert.KernelIdeal.Gen
open Cert.Proof.Setup Cert.Proof.Own Cert.Proof.Tile
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## A task, from what the launch gives it -/

/-- A task's run between its handshakes: its own buffers and cells opened, the body run, and both put back. -/
theorem task (d : Dev nD) (L : grid0.Coords) (O : CellTallies nD τ sig (HIx 1)) (W : Waits sig (HIx 1)) (hO : ∀ g, O g none = 0) :
    iprop(levAts (K (F := F)).L (K (F := F)).lev ∗ emp ∗ (tokPart m d (num L) ∗ outPart d (num L) (m (outLoc d)))
        ∗ scopedBufs (thr d L) ∗ scopedSems0 (thr d L) ∗ owes (thr d L) O W)
      ⊢ wp frame (wpE (defs₀ (F := F)) 𝒱₀ (thr d L) none) Set.univ (body d L)
          fun _ => iprop((tokPart m d (num L) ∗ outPart d (num L) (bag m d)) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (coreOf L) (subOf L), SparseCore.Cfg.scopedSems0_V (Val := Elt F) d (coreOf L) (subOf L),
    own_cells, own_bufs]
  iintro ⟨#Hlv, -, ⟨Htok, Hout⟩, ⟨⟨%fw, Hw⟩, ⟨%ft, Ht⟩, Hbufs⟩, ⟨Hfetch, Hfull, Hlast, Hcells⟩, HO⟩
  ihave Hmw := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none) Set.univ) $$ [Hmw Htok Hout Hw Ht Hfetch Hfull Hlast HO]
  · iapply (run m d L O W fw ft)
    isplitl [Hmw]; · iexact Hmw
    isplitl [Htok]; · iexact Htok
    isplitl [Hout]; · iexact Hout
    isplitl [Hw]; · iexact Hw
    isplitl [Ht]; · iexact Ht
    isplitl [Hfetch]; · iexact Hfetch
    isplitl [Hfull]; · iexact Hfull
    isplitl [Hlast]; · iexact Hlast
    iexact HO
  iintro %_ ⟨Htok, Hout, Hw, Ht, Hfetch, Hfull, Hlast, %W', HO⟩
  isplitl [Htok Hout]
  · isplitl [Htok]; · iexact Htok
    iexact Hout
  isplitl [Hw Ht Hbufs]
  · isplitl [Hw]; · iexact Hw
    isplitl [Ht]; · iexact Ht
    iexact Hbufs
  isplitl [Hfetch Hfull Hlast Hcells]
  · isplitl [Hfetch]; · iexact Hfetch
    isplitl [Hfull]; · iexact Hfull
    isplitl [Hlast]; · iexact Hlast
    iexact Hcells
  iexists W'; isplitr
  · -- a recorded wait is at no handshake's index or at the one call's
    ipureintro; intro p _
    rcases p.2 with _ | q
    · exact .inr (.inl rfl)
    · exact .inr (.inr (congrArg some (Subsingleton.elim q 0)))
  · iexact HO

/-! ## The call's tasks -/

/-- A task's coordinates from its SparseCore's number and its own. -/
def coords (c : Fin (grid0.bound 0)) (s : Fin (grid0.bound 1)) : grid0.Coords :=
  fun | 0 => c | 1 => s | ⟨_ + 2, h⟩ => absurd h (Nat.not_lt.2 (Nat.le_add_left _ _))

/-- What the call runs on a vector subcore. -/
theorem defs₀_tile (c : Fin τ.nSC) (s : Fin τ.nSub) :
    defs₀ (F := F) (.scVector c s) 0 ()
      = SparseCore.onTile hcore0 hsub0 (fun c s => cc0__bow_sc (coords c s) tokM (Memref.isWhole_whole _) outM (Memref.isWhole_whole _)
          wordsM (Memref.isWhole_whole _) tallyM (Memref.isWhole_whole _) cc0_scoped0 cc0_scoped1 cc0_scoped2) ⟨⟩ c s := rfl

/-- Every task of the call meets its payload. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact task m d (coords ⟨_, hci.1⟩ ⟨_, hci.2⟩) O W hO

/-! ## Dealing the arrays and putting them together -/

/-- A product over the call's tasks is one over the eight. -/
theorem over_tasks (f : Fin 8 → sProp 𝕄) :
    (bigSep Finset.univ fun i : Fin ((K (F := F)).nSub 0) => f (Fin.cast eight i)) = bigSep Finset.univ f := rfl

/-- The arrays whole are the tasks' parts, and the parts with the entries counted are the arrays whole, the counts at
    the bag of words. -/
theorem split : (K (F := F)).VecSplit' (P m) 0 := by
  intro d c
  show iprop(tokPts m d ∗ outPts d (m (outLoc d))) ⊢ |={Set.univ}=> iprop(
      (bigSep Finset.univ fun i : Fin ((K (F := F)).nSub 0) => iprop(tokPart m d (Fin.cast eight i) ∗ outPart d (Fin.cast eight i) (m (outLoc d))))
      ∗ ((bigSep Finset.univ fun i : Fin ((K (F := F)).nSub 0) => iprop(tokPart m d (Fin.cast eight i) ∗ outPart d (Fin.cast eight i) (bag m d)))
          -∗ iprop(tokPts m d ∗ outPts d (bag m d))))
  rw [over_tasks (F := F) (fun i => iprop(tokPart m d i ∗ outPart d i (m (outLoc d)))),
    over_tasks (F := F) (fun i => iprop(tokPart m d i ∗ outPart d i (bag m d))), bigSep_sep', bigSep_sep',
    tokPts_parts, outPts_parts, outPts_parts]
  iintro H; imodintro
  isplitl [H]; · iexact H
  iintro H; iexact H

/-! ## The launch's ghost state -/

/-- The handshakes' rounds at their start; the transfers' counters begin empty. -/
def u₀ : UU := (initOf (K (F := F)).hsCells (K (F := F)).hsToks, 1)

/-- The launch takes the handshakes' rounds, and nothing beside them. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have none : ∀ {I : Type} (s : Finset I), (bigSep s fun _ => iprop(emp)) = (iprop(emp) : sProp 𝕄) := fun s => bigSep_emp_const s
  have hx : (bigSep Finset.univ fun t : Thread nD τ => bigSep Finset.univ fun q : Fin 1 => (P (F := F) m).x q t) = iprop(emp) :=
    (bigSep_congr fun _ _ => bigSep_univ_of_subsingleton (0 : Fin 1)).trans (none _)
  rw [hx, none]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.Proof.Call

end
-- ==== Proof.Run.lean ====
/-
  The whole program's run: the argument's words put in a row, the call, the counts put at the result's shape. From any
  memory, over any float values, it ends with the argument unchanged, the result holding the bag of words of the
  argument's tokens, and every semaphore at zero.
-/
module

public import proofs.«01_k».proof.Proof.Call

@[expose] public section

set_option maxRecDepth 16384

noncomputable section

namespace Cert.Proof.Run

open Cert.KernelIdeal Cert.KernelIdeal.Gen
open Cert.Proof.Setup Cert.Proof.Call
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev in' : DevRef τ sig := Proc.devRef .tc (main_arg0 : Ref sig .tc)
abbrev tok' : DevRef τ sig := Proc.devRef .tc (main_v0 : Ref sig .tc)
abbrev out' : DevRef τ sig := Proc.devRef .tc (main_v1 : Ref sig .tc)
abbrev res' : DevRef τ sig := Proc.devRef .tc (main_v2 : Ref sig .tc)
abbrev arrays : Finset (DevRef τ sig) := {in', tok', out', res'}

/-- The four arrays held, one by one. -/
theorem held_arrays (d : Dev nD) (X : Valuation τ sig (Elt F)) :
    (held (SparseCore.T d) arrays X : sProp 𝕄)
      = iprop((inLoc d ↦{fullShare} X in') ∗ (tokLoc d ↦{fullShare} X tok') ∗ (outLoc d ↦{fullShare} X out') ∗ resLoc d ↦{fullShare} X res') := by
  unfold held arrays
  rw [SparseCore.bigSep_insert' (by decide), SparseCore.bigSep_insert' (by decide), SparseCore.bigSep_insert' (by decide), bigSep_singleton]

/-- The launch's arrays are those four. -/
theorem launch_arrays (d : Dev nD) (X : (b : Ref sig .tc) → Buf (Elt F) ((d.tc : Thread nD τ).loc b)) :
    (unscopedBufs d X : sProp 𝕄)
      = iprop((inLoc d ↦{fullShare} X main_arg0) ∗ (tokLoc d ↦{fullShare} X main_v0) ∗ (outLoc d ↦{fullShare} X main_v1)
          ∗ resLoc d ↦{fullShare} X main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-! ## The two reshapes -/

/-- The argument's words put in a row, and the counts put at the result's shape. -/
abbrev toRow : HloOp τ sig (Elt F) := StableHlo.reshape main_arg0 main_v0 (rfl : (.i32 : EltTy) = .i32) shapeCasts_S2x1_S2
abbrev toRes : HloOp τ sig (Elt F) := StableHlo.reshape main_v1 main_v2 (rfl : (.f32 : EltTy) = .f32) shapeCasts_S1000_S1x1000

theorem toRow_within : (toRow (F := F)).bufs ⊆ arrays := show ({in', tok'} : Finset (DevRef τ sig)) ⊆ arrays by decide
theorem toRes_within : (toRes (F := F)).bufs ⊆ arrays := show ({out', res'} : Finset (DevRef τ sig)) ⊆ arrays by decide

/-- What the arrays hold at the launch. -/
def atLaunch (d : Dev nD) : Valuation τ sig (Elt F) := fun b => m (d, b)

/-- After the first reshape the tokens are in their row, and the rest is as launched. -/
theorem row_pts (d : Dev nD) :
    (held (SparseCore.T d) arrays ((toRow (F := F)).result (atLaunch m d)) : sProp 𝕄)
      = iprop((inLoc d ↦{fullShare} m (inLoc d)) ∗ tokPts m d ∗ outPts d (m (outLoc d)) ∗ resLoc d ↦{fullShare} m (resLoc d)) := by
  have keep : ∀ b, b ≠ tok' → (toRow (F := F)).result (atLaunch m d) b = m (d, b) := fun b hb =>
    (toRow (F := F)).result_of_not_mem _ (show b ∉ ({tok'} : Finset (DevRef τ sig)) from fun h => hb (Finset.mem_singleton.mp h))
  rw [held_arrays, keep in' (by decide), keep out' (by decide), keep res' (by decide)]
  have e : (toRow (F := F)).result (atLaunch m d) tok' = toks m d := StableHlo.reshape_result' ..
  rw [e]

variable [FloatOps F]

/-- What the arrays hold after the call: the counts are the bag of words. -/
def afterCall (d : Dev nD) : Valuation τ sig (Elt F) := Function.update ((toRow (F := F)).result (atLaunch m d)) out' (bag m d)

theorem call_pts (d : Dev nD) :
    (held (SparseCore.T d) arrays (afterCall m d) : sProp 𝕄)
      = iprop((inLoc d ↦{fullShare} m (inLoc d)) ∗ tokPts m d ∗ outPts d (bag m d) ∗ resLoc d ↦{fullShare} m (resLoc d)) := by
  have keep : ∀ b, b ≠ tok' → b ≠ out' → afterCall m d b = m (d, b) := fun b hb hb' =>
    (Function.update_of_ne hb' _ _).trans
      ((toRow (F := F)).result_of_not_mem _ (show b ∉ ({tok'} : Finset (DevRef τ sig)) from fun h => hb (Finset.mem_singleton.mp h)))
  have e : afterCall m d tok' = toks m d :=
    (Function.update_of_ne (show tok' ≠ out' by decide) _ _).trans (StableHlo.reshape_result' ..)
  have e' : afterCall m d out' = bag m d := Function.update_self _ _ _
  rw [held_arrays, keep in' (by decide) (by decide), keep res' (by decide) (by decide), e, e']

/-- The program's result: the bag of words at the result's shape. -/
def result (d : Dev nD) : Buf (Elt F) (resLoc d) := shapeCast S1x1000 (bag m d) shapeCasts_S1000_S1x1000

/-- What @main leaves: the argument as launched, and the result. -/
abbrev final (d : Dev nD) : sProp 𝕄 := iprop((inLoc d ↦{fullShare} m (inLoc d)) ∗ resLoc d ↦{fullShare} result m d)

theorem res_pts (d : Dev nD) :
    (held (SparseCore.T d) arrays ((toRes (F := F)).result (afterCall m d)) : sProp 𝕄)
      = iprop((inLoc d ↦{fullShare} m (inLoc d)) ∗ (tokLoc d ↦{fullShare} (toRes (F := F)).result (afterCall m d) tok')
          ∗ (outLoc d ↦{fullShare} (toRes (F := F)).result (afterCall m d) out') ∗ resLoc d ↦{fullShare} result m d) := by
  have keep : (toRes (F := F)).result (afterCall m d) in' = m (inLoc d) :=
    ((toRes (F := F)).result_of_not_mem _ (show in' ∉ ({res'} : Finset (DevRef τ sig)) by decide)).trans
      ((Function.update_of_ne (show in' ≠ out' by decide) _ _).trans
        ((toRow (F := F)).result_of_not_mem _ (show in' ∉ ({tok'} : Finset (DevRef τ sig)) by decide)))
  have e : (toRes (F := F)).result (afterCall m d) res' = result m d := by
    refine (StableHlo.reshape_result' ..).trans ?_
    rw [show afterCall m d (Proc.devRef .tc main_v1) = bag m d from Function.update_self _ _ _]; rfl
  rw [held_arrays, keep, e]

/-! ## @main -/

theorem st_eq (d : Dev nD) :
    (bigSep Finset.univ fun c : Fin ((K (F := F)).nCore 0) => (P m).st 0 d c) = iprop(tokPts m d ∗ outPts d (m (outLoc d))) :=
  bigSep_univ_of_subsingleton (0 : Fin 1)
theorem dn_eq (d : Dev nD) :
    (bigSep Finset.univ fun c : Fin ((K (F := F)).nCore 0) => (P m).dn 0 d c) = iprop(tokPts m d ∗ outPts d (bag m d)) :=
  bigSep_univ_of_subsingleton (0 : Fin 1)

/-- @main on the TensorCore: the reshape, the call from the tokens and the counts and back, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  have launch : (unscopedBufs d (fun b => m ((SparseCore.T d).loc b)) : sProp 𝕄) = held (SparseCore.T d) arrays (atLaunch m d) := by
    rw [launch_arrays, held_arrays]; rfl
  rw [launch]
  simp only [main, wp_bind, wp_pure]
  iintro ⟨#Hctx, Hst, ⟨Hb, Hheld, Hts, -⟩, -⟩
  iapply (wp_hlo_within 𝒱 (SparseCore.T d) none Set.univ (op := toRow) (S := arrays) toRow_within (V := atLaunch m d)) $$ [Hb Hheld]
  · isplitl [Hb] <;> iassumption
  iintro ⟨Hb, Hheld⟩
  rw [wp_ret]; imodintro
  ihave Hh := (Entails.of_eq (row_pts (F := F) m d)) $$ Hheld
  icases Hh with ⟨Hin, Htok, Hout, Hres⟩
  iapply ((K (F := F)).wp_run (D (F := F)) 𝒱 (EH := EH) (P := P m) κ d 0) $$ [Hst Hin Htok Hout Hres Hb Hts]
  isplitr; · iexact Hctx
  isplitl [Hst]; · iexact Hst
  isplitl [Htok Hout]
  · rw [st_eq]
    isplitl [Htok]; · iexact Htok
    iexact Hout
  iintro ⟨Hst, Hdn⟩
  ihave Hdn' := (Entails.of_eq (dn_eq m d)) $$ Hdn
  icases Hdn' with ⟨Htok, Hout⟩
  iapply (wp_hlo_within 𝒱 (SparseCore.T d) none Set.univ (op := toRes) (S := arrays) toRes_within (V := afterCall m d)) $$ [Hb Hin Htok Hout Hres]
  · isplitl [Hb]; · iexact Hb
    rw [call_pts]
    isplitl [Hin]; · iexact Hin
    isplitl [Htok]; · iexact Htok
    isplitl [Hout]; · iexact Hout
    iexact Hres
  iintro ⟨Hb, Hheld⟩
  ihave Hh := (Entails.of_eq (res_pts (F := F) m d)) $$ Hheld
  icases Hh with ⟨Hin, -, -, Hres⟩
  rw [wp_ret]; imodintro; imodintro
  isplitl [Hst]; · iexact Hst
  isplitl [Hin Hres]
  · isplitl [Hin]; · iexact Hin
    iexact Hres
  isplitl [Hb] <;> iassumption

/-! ## The run -/

/-- What a device's memory holds at the end. -/
def ends (d : Dev nD) (s : Phys nD τ sig (Elt F)) : Prop := s.mem.mem (inLoc d) = m (inLoc d) ∧ s.mem.mem (resLoc d) = result m d

theorem hfin (d : Dev nD) (s : Phys nD τ sig (Elt F)) : iprop(final m d ∗ SI s) ⊢ (⌜ends m d s⌝ : sProp 𝕄) := by
  iintro ⟨⟨Hin, Hres⟩, HSI⟩
  ihave H := (persistent_entails_right (SI_pointsTo_agree (st := s) (ℓ := inLoc d) (I := Finset.univ) (q := fullShare) (f := m (inLoc d)))) $$ [HSI Hin]
  · isplitl [HSI] <;> iassumption
  icases H with ⟨%hin, HSI, -⟩
  ihave H := (SI_pointsTo_agree (st := s) (ℓ := resLoc d) (I := Finset.univ) (q := fullShare) (f := result m d)) $$ [HSI Hres]
  · isplitl [HSI] <;> iassumption
  icases H with %hres
  ipureintro
  exact ⟨funext fun i => hin i (Finset.mem_univ i), funext fun i => hres i (Finset.mem_univ i)⟩

/-- The program runs from any memory to its end, the argument unchanged, the result the bag of words, every semaphore
    at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (inLoc d) = m (inLoc d) ∧ r.2.mem (resLoc d) = result m d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (split m))
    m ρ main (fun _ => iprop(emp)) (final m) (u₀ (F := F)) (sep_elim_left.trans (hu₀ m)) (hmain m ρ) (ends m) (hfin m) _ (fun _ h hz => ⟨h, hz⟩)

end Cert.Proof.Run

end
-- ==== Proof.Reference.lean ====
/-
  What the reference computes, over the reals, of its two tokens: entry `x` of its result is zero plus one for every token
  whose number is `x`. The reference stacks the tokens, adds 1000 to a negative one (an index read from the end), and adds
  a vector of ones into a thousand zeros at them. When no token is negative the first of these changes nothing, and a
  token past the table's end is added nowhere.
-/
module

public import proofs.«01_k».proof.Defs
public import proofs.«01_k».proof.Proof.Gen.ReferenceIdeal
public import proofs.«01_k».proof.Proof.Gen.ReferenceIdeal.Run
public import Idealize.ShloMosaic.Lib.Pipeline.Value
public import Idealize.ShloMosaic.Lib.Routing.OpsPair
public import Idealize.ShloMosaic.Lib.Pointwise.Index
public import Idealize.ShloMosaic.Lib.WordCmp
public import Idealize.ShloMosaic.PureOps.Ideal

@[expose] public section

noncomputable section

namespace Cert.Proof.Reference

open Cert.ReferenceIdeal Cert.ReferenceIdeal.Gen
open Idealize.ShloMosaic

/-- Entry `k` of a vector of two. -/
abbrev at2 (k : Fin 2) : S2.Idx := ix1 k
/-- Row `k` of the token array. -/
abbrev row (k : Fin 2) : S2x1.Idx := ix2 k 0

variable (x : IVec S2x1 32)

/-! ## The indices the reference scatters at -/

/-- The two tokens, stacked. -/
def sent : IVec S2 32 :=
  concatenate S2 0 [⟨S1, broadcastInDim S1 ![] bcast_S_S1 (shapeCast S_ (extractStridedSlice S1x1 ![0, 0] x slices_S2x1_S1x1_0_0) shapeCasts_S1x1_S_)⟩,
    ⟨S1, broadcastInDim S1 ![] bcast_S_S1 (shapeCast S_ (extractStridedSlice S1x1 ![1, 0] x slices_S2x1_S1x1_1_0) shapeCasts_S1x1_S_)⟩]
    concatenates_S1_S1_S2_d0

/-- The tokens as indices into a thousand entries: 1000 added to a negative one. -/
def wrapped : IVec S2 32 :=
  select (cmpi .slt (sent x) (broadcastInDim S2 ![] bcast_S_S2 (constantI S_ 32 0#32)))
    (addi (sent x) (broadcastInDim S2 ![] bcast_S_S2 (constantI S_ 32 1000#32))) (sent x)

/-- Ones added into a thousand zeros at the tokens. -/
def counted : FVec Ideal S1000 .f32 :=
  Host.scatterAdd scatter_S1000_S2x1_S2_n_0_0_1 (broadcastInDim S1000 ![] bcast_S_S1000 (constant S_ .f32 0x00000000#32))
    (broadcastInDim S2x1 ![0] bcast_S2_S2x1_0 (wrapped x)) (broadcastInDim S2 ![] bcast_S_S2 (constant S_ .f32 0x3F800000#32))

/-- The reference's result on the tokens `x`. -/
def answer : FVec Ideal S1x1000 .f32 := shapeCast S1x1000 (counted x) shapeCasts_S1000_S1x1000

/-- The stacked tokens, one at a time. -/
theorem sent_at (k : Fin 2) : sent x (at2 k) = x (row k) := by
  revert k
  refine Fin.forall_fin_two.2 ⟨?_, ?_⟩ <;> unfold sent
  · refine (concatenate_pair_apply_left (t := S2) (s₁ := S1) (s₂ := S1) 0 _ _ _ _ rfl (ix1 0) (by decide)).trans (congrArg x ?_)
    funext a; match a with | ⟨0, _⟩ => rfl | ⟨1, _⟩ => rfl
  · refine (concatenate_pair_apply_right (t := S2) (s₁ := S1) (s₂ := S1) 0 _ _ _ _ rfl rfl (ix1 0) (by decide) (by decide)).trans (congrArg x ?_)
    funext a; match a with | ⟨0, _⟩ => rfl | ⟨1, _⟩ => rfl

/-- A token that is not negative is its own index. -/
theorem wrapped_at (k : Fin 2) (h : 0 ≤ (x (row k)).toInt) : wrapped x (at2 k) = x (row k) := by
  have e : IntOp.cmpi .slt (x (row k)) 0#32 ≠ 1#1 := fun h' => absurd (IntOp.cmpi_slt.1 h') (not_lt.mpr h)
  show (if IntOp.cmpi .slt (sent x (at2 k)) 0#32 = 1 then _ else sent x (at2 k)) = _
  rw [sent_at]
  exact if_neg e

/-! ## Where each one lands -/

/-- The one for token `k` lands at entry `e` exactly when the token's number is `e`. -/
theorem lands (k : Fin 2) (h : 0 ≤ (x (row k)).toInt) (e : S1000.Idx) :
    scatter_S1000_S2x1_S2_n_0_0_1.resultIdx? (at2 k) (broadcastInDim S2x1 ![0] bcast_S2_S2x1_0 (wrapped x)) = some e
      ↔ (x (row k)).toNat = (e 0).val := by
  have hs : scatter_S1000_S2x1_S2_n_0_0_1.start (at2 k) (broadcastInDim S2x1 ![0] bcast_S2_S2x1_0 (wrapped x)) 0 = (x (row k)).toInt := by
    rw [← wrapped_at x k h]
    match k with | ⟨0, _⟩ => rfl | ⟨1, _⟩ => rfl
  have hw : scatter_S1000_S2x1_S2_n_0_0_1.window (at2 k) 0 = 0 := rfl
  have hn : (x (row k)).toInt = (x (row k)).toNat := by
    rw [BitVec.toInt_eq_toNat_cond] at h ⊢
    split at h <;> omega
  rw [Routing.resultIdx?_eq_some]
  constructor
  · intro he
    have := he 0
    rw [hs, hw, hn] at this
    omega
  · intro he a
    obtain rfl : a = 0 := Fin.eq_zero a
    rw [hs, hw, hn]
    omega

/-! ## The counts -/

/-- One where `p` holds, zero where it does not. -/
def tally (p : Prop) [Decidable p] : EReal := if p then Ideal.ofBits .f32 0x3F800000#32 else 0

/-- With no token negative, entry `e` of the count is zero plus one for each token whose number is `e`. -/
theorem counted_at (h : ∀ k, 0 ≤ (x (row k)).toInt) (e : S1000.Idx) :
    counted x e = Ideal.ofBits .f32 0x00000000#32
      + (tally ((x (row 0)).toNat = (e 0).val) + tally ((x (row 1)).toNat = (e 0).val)) := by
  show Ideal.ofBits .f32 0x00000000#32 + ∑ j ∈ Finset.univ.filter (fun j : S2.Idx => _ = some e), Ideal.ofBits .f32 0x3F800000#32 = _
  rw [Finset.sum_filter, sum_idx1, Fin.sum_univ_two]
  simp only [lands x _ (h _), tally]

end Cert.Proof.Reference

end
-- ==== Proof.Equation.lean ====
/-
  The kernel's result is the reference's, over the reals, when no token is negative. The kernel raises an entry once for
  each token that names it; the reference adds to it the sum of as many ones. A negative token is what sets the two apart:
  the kernel counts it nowhere and the reference from the end of the table.
-/
module

public import proofs.«01_k».proof.Proof.Run
public import proofs.«01_k».proof.Proof.Reference
public import proofs.«01_k».proof.Proof.Gen.Pre_tokens_nonnegative
public import Idealize.ShloMosaic.Lib.ReduceAll

@[expose] public section

noncomputable section

namespace Cert.Proof.Equation

open Cert.KernelIdeal Cert.KernelIdeal.Gen
open Idealize.ShloMosaic
open Cert.Proof.Counts (bow bump)
open Cert.Proof.Setup (inLoc toks nth bag)
open Cert.Proof.Run (result)
open Cert.Proof.Reference (row tally counted counted_at answer)

/-- The precondition, as the reference's array function computes it, says that no token is negative. -/
theorem nonneg_of_pre (x : IVec Cert.Pre_tokens_nonnegative.S2x1 32)
    (h : Cert.Pre_tokens_nonnegative.fn (F := Ideal) x = fun _ => 1#1) (i : Cert.Pre_tokens_nonnegative.S2x1.Idx) : 0 ≤ (x i).toInt :=
  IntOp.cmpi_sge.1 (Host.reduce_andi_all _ _ _ _ _ (congrFun h ix0) i)

/-- Over the reals, a count raised by one where `p` holds is the count plus `p`'s tally. -/
theorem bump_eq (p : Prop) [Decidable p] (y : Ideal .f32) : bump p y = (y + tally p : EReal) := by
  unfold bump tally
  by_cases hp : p
  · rw [if_pos hp, if_pos hp]; rfl
  · rw [if_neg hp, if_neg hp]; exact (add_zero (M := EReal) y).symm

/-- The token array as the call reads it: its two rows in order. -/
theorem toks_at (m : (ℓ : Loc nD τ sig) → Buf (Elt Ideal) ℓ) (d : Dev nD) (k : Fin 2) :
    toks m d (nth k) = (m (inLoc d) : IVec S2x1 32) (row k) := by
  revert k
  exact Fin.forall_fin_two.2 ⟨shapeCast_apply (s := S2x1) (t := S2) _ _ _ _ (by decide), shapeCast_apply (s := S2x1) (t := S2) _ _ _ _ (by decide)⟩

/-- Entry by entry, the bag of words the kernel leaves is the reference's count. -/
theorem bag_eq (m : (ℓ : Loc nD τ sig) → Buf (Elt Ideal) ℓ) (d : Dev nD) (h : ∀ i : S2x1.Idx, 0 ≤ ((m (inLoc d) : IVec S2x1 32) i).toInt) :
    bag (F := Ideal) m d = counted (m (inLoc d)) := by
  funext e
  refine Eq.trans ?_ (counted_at _ (fun k => h (row k)) e).symm
  show bow (F := Ideal) (toks m d (nth 0)) (toks m d (nth 1)) (e 0).val = _
  rw [toks_at, toks_at]
  unfold bow
  rw [bump_eq, bump_eq]
  exact add_assoc (G := EReal) _ _ _

/-- The kernel's result is the reference's. -/
theorem result_eq (m : (ℓ : Loc nD τ sig) → Buf (Elt Ideal) ℓ) (d : Dev nD) (h : ∀ i : S2x1.Idx, 0 ≤ ((m (inLoc d) : IVec S2x1 32) i).toInt) :
    result (F := Ideal) m d = answer (m (inLoc d)) := by
  unfold result answer
  rw [bag_eq m d h]

end Cert.Proof.Equation

end
-- ==== Proof.lean ====
/-
  The certificate: the kernel (as written, and over the reals), its reference, and that over the reals the two give one
  result on tokens that are not negative.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tokens_nonnegative
public import proofs.«01_k».proof.Proof.Run
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem

/-- The kernel over machine words runs to its end from any memory, leaves its argument as it was, and every semaphore
    at zero. -/
theorem frame_kernel : Cert.quiescent_Kernel := fun m ρ _ =>
  (θ_run Cert.KernelIdeal.defs _ _).mono (fun _ h => ⟨fun c => (h.1 c).1, h.2⟩) (Run.run_main (F := Bits) m ρ)

/-- The kernel over the reals does too. -/
theorem frame_ideal : Cert.quiescent_KernelIdeal := fun m ρ _ =>
  (θ_run Cert.KernelIdeal.defs _ _).mono (fun _ h => ⟨fun c => (h.1 c).1, h.2⟩) (Run.run_main (F := Ideal) m ρ)

/-- The reference runs to its end from any memory and leaves its argument as it was; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals, on tokens that are not negative, the kernel and the reference leave the same bag of words. -/
theorem value : Cert.algebraic_KernelIdeal_ReferenceIdeal_pre_tokens_nonnegative := fun m ρ m' ρ' hpre hm =>
  ⟨fun c => Run.result (F := Ideal) m c,
    (θ_run Cert.KernelIdeal.defs _ _).mono (fun _ h c => ⟨(h.1 c).2, (h.1 c).1⟩) (Run.run_main (F := Ideal) m ρ),
    (θ_run Cert.ReferenceIdeal.defs _ _).mono
      (fun _ h c => ⟨(h c).1.trans ((congrArg Reference.answer (hm c)).trans
        (Equation.result_eq m c (Equation.nonneg_of_pre _ (hpre c))).symm), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, Cert.Pre_tokens_nonnegative.Gen.facts,
    frame_kernel, frame_ideal, fun m ρ _ => frame_ideal m ρ trivial, frame_reference, fun m ρ _ => frame_reference m ρ trivial,
    trivial, value⟩

end Cert.Proof

end
